-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8x1024x256 : Shape := ⟨3, ![8, 1024, 256]⟩
abbrev S8192x256 : Shape := ⟨2, ![8192, 256]⟩
abbrev S8 : Shape := ⟨1, ![8]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩

abbrev nBuf : Space → Nat
  | .hbm => 3
  | .vmem => 1
  | .smem => 0
  | _ => 0

abbrev bufTy : (tb : Table) → Fin (tcTables nBuf tb) → BufTy
  | .hbm, ⟨0, _⟩ => ⟨S8x1024x256, .f32⟩
  | .hbm, ⟨1, _⟩ => ⟨S8192x256, .f32⟩
  | .hbm, ⟨2, _⟩ => ⟨S8x1024x256, .f32⟩
  | .local _ .vmem, ⟨0, _⟩ => ⟨S8x1024x256, .f32⟩
  | _, _ => ⟨S8x1024x256, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== Reference.lean ====
abbrev S8x1024x256 : Shape := ⟨3, ![8, 1024, 256]⟩
abbrev S8192x256 : Shape := ⟨2, ![8192, 256]⟩

abbrev nBuf : Space → Nat
  | .hbm => 2
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S8192x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== Proof.Slabs.lean ====
/-
  An array of slabs, filled one slab at a time.

  The kernel cuts an array of shape [n, a, b] along its first axis into n slabs of shape [a, b] and copies slab by slab.
  This file is the memory arithmetic of that, at any extents, for any array of that shape in any memory space: what a
  slab reads after some slabs have been written, and that an array filled with another array's n slabs holds that
  array. Nothing here speaks of a program.
-/
module

public import Idealize.ShloMosaic.Lib.ViewIndex
public import Idealize.ShloMosaic.Lib.ReshapeSlab

@[expose] public section

namespace Cert.Slabs

open Idealize.ShloMosaic

/-- The array's shape. -/
abbrev Arr (n a b : ℕ) : Shape := ⟨3, ![n, a, b]⟩
/-- One slab, its unit first axis kept. -/
abbrev Slab1 (a b : ℕ) : Shape := ⟨3, ![1, a, b]⟩
/-- One slab, its unit first axis dropped. -/
abbrev Slab (a b : ℕ) : Shape := ⟨2, ![a, b]⟩

variable {n a b : ℕ}

/-- Slab `i` lies inside the array. -/
theorem slab_inb (i : ℕ) (hi : i < n) : ∀ d, (![i, 0, 0] : Fin 3 → ℕ) d + (Slab1 a b).size d ≤ (Arr n a b).size d := by
  intro d
  match d with
  | 0 => exact hi
  | 1 => exact (Nat.zero_add a).le
  | 2 => exact (Nat.zero_add b).le

/-- The box slab `i` occupies: first coordinate `i`, the other two free. -/
abbrev box (i : ℕ) (hi : i < n) : Rect (Arr n a b) :=
  Rect.unit (s := Arr n a b) ![i, 0, 0] (Slab1 a b).size (slab_inb i hi)

/-- The index `x` lies in the box its first coordinate names. -/
theorem mem_box (x : (Arr n a b).Idx) (h : (x 0 : ℕ) < n) : x ∈ (box (n := n) (a := a) (b := b) (x 0 : ℕ) h).set := by
  refine (LoadRect.mem_set _).mpr fun d => ?_
  match d with
  | 0 => exact ⟨0, Nat.one_pos, rfl⟩
  | 1 => exact ⟨x 1, (x 1).isLt, by change (x 1 : ℕ) = 0 + 1 * (x 1 : ℕ); omega⟩
  | 2 => exact ⟨x 2, (x 2).isLt, by change (x 2 : ℕ) = 0 + 1 * (x 2 : ℕ); omega⟩

variable {sig : RefSig} {κ : Kind} {sp sp' : Space} {e : EltTy} {Val : EltTy → Type}
variable (hq : (Slab1 a b).Squeezes (Slab a b))

/-- Slab `i` of an array, as a reference of shape [a, b]. -/
abbrev slab (M : Memref sig κ sp (Arr n a b) e) (i : ℕ) (hi : i < n) : Memref sig κ sp (Slab a b) e :=
  (M.slice (box i hi) (fun _ => rfl)).squeeze (Slab a b) hq

/-- Two different slabs share no element. -/
theorem slab_disjoint (M : Memref sig κ sp (Arr n a b) e) {i j : ℕ} (hi : i < n) (hj : j < n) (h : i ≠ j) :
    Disjoint (α := Finset M.view.ty.Idx) (slab hq M i hi).view.set (slab hq M j hj).view.set := by
  have h' : Disjoint (M.view.slice (box i hi)).set (M.view.slice (box j hj)).set :=
    View.disjoint_slice_of_sep M.view _ _ 0 rfl rfl (by
      change i + 1 ≤ j ∨ j + 1 ≤ i
      omega)
  have ei : ((slab hq M i hi).view.set : Finset M.view.ty.Idx) = (M.view.slice (box i hi)).set := View.set_reshape _ _
  have ej : ((slab hq M j hj).view.set : Finset M.view.ty.Idx) = (M.view.slice (box j hj)).set := View.set_reshape _ _
  rw [ei, ej]
  exact h'

/-- A slab at the row-major position of one of its box's indices reads the array at that index. -/
theorem slab_read (M : Memref sig κ sp (Arr n a b) e) (f : M.view.ty.Contents Val) (i : ℕ) (hi : i < n)
    (y : (box (n := n) (a := a) (b := b) i hi).shape.Idx) :
    (slab hq M i hi).view.read Val f ((Shape.reshapeEquiv hq.numel_eq).symm y) = M.view.read Val f ((box i hi).emb y) := by
  change M.view.read Val f ((box i hi).emb (Shape.reshapeEquiv hq.numel_eq ((Shape.reshapeEquiv hq.numel_eq).symm y))) = _
  rw [Equiv.apply_symm_apply]

/-- Two arrays whose slabs read alike, one by one, read alike as wholes. -/
theorem read_eq_of_slabs (M : Memref sig κ sp (Arr n a b) e) (N : Memref sig κ sp' (Arr n a b) e)
    (f : M.view.ty.Contents Val) (g : N.view.ty.Contents Val)
    (h : ∀ (i : ℕ) (hi : i < n), (slab hq M i hi).view.read Val f = (slab hq N i hi).view.read Val g) :
    M.view.read Val f = N.view.read Val g := by
  funext x
  have h0 : (x 0 : ℕ) < n := (x 0).isLt
  obtain ⟨y, hy⟩ := LoadRect.exists_idx_of_mem _ (mem_box x h0)
  have hy' : (box (n := n) (a := a) (b := b) (x 0 : ℕ) h0).emb y = x := hy
  have hz := congrFun (h (x 0 : ℕ) h0) ((Shape.reshapeEquiv hq.numel_eq).symm y)
  rwa [slab_read hq M f (x 0 : ℕ) h0, slab_read hq N g (x 0 : ℕ) h0, hy'] at hz

/-- The array's contents after its first `k` slabs have been written in order, slab `i` with `w i`. -/
def fill (M : Memref sig κ sp (Arr n a b) e) (f : M.view.ty.Contents Val)
    (w : (i : ℕ) → i < n → (Slab a b).Idx → Val e) : (k : ℕ) → k ≤ n → M.view.ty.Contents Val
  | 0, _ => f
  | k + 1, hk => (slab hq M k hk).view.write Val (fill M f w k (Nat.le_of_succ_le hk)) (w k hk) Finset.univ

/-- A slab among those written reads what was written there. -/
theorem read_fill (M : Memref sig κ sp (Arr n a b) e) (f : M.view.ty.Contents Val)
    (w : (i : ℕ) → i < n → (Slab a b).Idx → Val e) (i : ℕ) (hi : i < n) :
    ∀ (k : ℕ) (hk : k ≤ n), i < k → (slab hq M i hi).view.read Val (fill hq M f w k hk) = w i hi
  | 0, _, h => absurd h (Nat.not_lt_zero _)
  | k + 1, hk, h => by
    by_cases hik : i = k
    · subst hik
      exact View.read_write_univ _ _
    · refine Eq.trans (View.read_congr fun x hx => ?_) (read_fill M f w i hi k (Nat.le_of_succ_le hk) (by omega))
      exact View.write_of_not_mem _ _ _ fun hm => Finset.disjoint_left.mp (slab_disjoint hq M hi hk hik) hx hm

/-- The slabs of an array's contents, each as a transfer that converts nothing carries it. -/
abbrev slabsOf (M : Memref sig κ sp (Arr n a b) e) (f : M.view.ty.Contents Val) :
    (i : ℕ) → i < n → (Slab a b).Idx → Val e :=
  fun i hi => ReadAs.same.apply ((slab hq M i hi).view.read Val f)

/-- An array filled with all the slabs of another is read as the other is. -/
theorem read_fill_all (M : Memref sig κ sp (Arr n a b) e) (N : Memref sig κ sp' (Arr n a b) e)
    (f : M.view.ty.Contents Val) (g : N.view.ty.Contents Val) :
    M.view.read Val (fill hq M f (slabsOf hq N g) n le_rfl) = N.view.read Val g :=
  read_eq_of_slabs hq M N _ _ fun i hi => read_fill hq M f (slabsOf hq N g) i hi n le_rfl hi

end Cert.Slabs
-- ==== Proof.Run.lean ====
/-
  The run of the kernel program, at any interpretation of its floats.

  The kernel copies its first argument, left in HBM, to its result, also left in HBM, in eight slabs: it starts the
  eight copies into its VMEM buffer, each on a semaphore of its own; as each one completes it starts the copy of that
  slab out to the result, again each on its own semaphore; and it then waits for those eight. This file runs the body
  (`body_run`), hands the run to the launch theorem for kernels that move their own data (`run_main`), and reads off
  what a certificate needs (`run`): the program ends, the result holds the first argument, both arguments are as they
  were, and every semaphore counter is back at zero.
-/
module

public import proofs.«01_k».proof.Proof.Gen.Kernel.Launch
public import proofs.«01_k».proof.Proof.Gen.Kernel.Skeleton
public import proofs.«01_k».proof.Proof.Gen.Kernel.Points
public import proofs.«01_k».proof.Proof.Slabs
public import Idealize.ShloMosaic.Lib.Pipeline.FrameBody
public import Idealize.ShloMosaic.Lib.Pipeline.FrameValue
public import Idealize.ShloMosaic.Lib.Pipeline.Routed
public import Idealize.ShloMosaic.Lib.Tactic

@[expose] public section

noncomputable section

namespace Cert.Kernel.Hand

open Cert.Kernel Cert.Kernel.Gen Cert.Slabs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The logic's resources: the launch library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The arrays and the semaphores -/

/-- The first argument, the result and the kernel's VMEM buffer, each whole. -/
abbrev src : Memref sig .tc .hbm S8x1024x256 .f32 := Memref.whole main_arg0
abbrev dst : Memref sig .tc .hbm S8x1024x256 .f32 := Memref.whole main_v0
abbrev stage : Memref sig .tc .vmem S8x1024x256 .f32 := Memref.whole cc0_scratch0

/-- An array's contents, and the array held whole at given contents. -/
abbrev Cont (c : Dev nD) {sp : Space} (M : Memref sig .tc sp S8x1024x256 .f32) : Type :=
  Buf (Elt F) (M.view.loc (c : Thread nD τ))
abbrev held (c : Dev nD) {sp : Space} (M : Memref sig .tc sp S8x1024x256 .f32) (f : Cont (F := F) c M) : sProp 𝕄 :=
  M.view.loc (c : Thread nD τ) ↦{fullShare} f

/-- The kernel's sixteen DMA semaphores: eight for the copies in, eight for the copies out. -/
abbrev osem0 : Fin 16 → SemLoc sig := fun j => SemLoc.dma j
theorem ownSemFacts0 : Pipeline.OwnSemFacts (cfg0.spec) osem0 := by decide

/-- Semaphore `j`'s counter at zero. -/
abbrev idle (c : Dev nD) (j : Fin 16) : sProp 𝕄 := semVal ((c : Thread nD τ), SemLoc.dma j) 0

/-- All sixteen at zero, listed. -/
theorem ownSems0_list (c : Dev nD) :
    (Pipeline.ownSems0 (Ix := Unit) (Name := ℕ) (U := Pipeline.UD sig nD τ) (Lvl := ℕ) (Val := Elt F) (τ := τ) osem0 c : sProp 𝕄)
      = iprop(idle c 0 ∗ idle c 1 ∗ idle c 2 ∗ idle c 3 ∗ idle c 4 ∗ idle c 5 ∗ idle c 6 ∗ idle c 7
          ∗ idle c 8 ∗ idle c 9 ∗ idle c 10 ∗ idle c 11 ∗ idle c 12 ∗ idle c 13 ∗ idle c 14 ∗ idle c 15) := by
  rw [Pipeline.ownSems0_eq_of_list c osem0 [0, 1, 2, 3, 4, 5, 6, 7, 8, 9, 10, 11, 12, 13, 14, 15] (by decide) (by decide)]
  rfl

/-! ## What the copies leave -/

/-- What the VMEM buffer holds once the eight copies in have landed on contents `fb`: the argument's slabs. -/
abbrev staged (c : Dev nD) (fs : Cont (F := F) c src) (fb : Cont (F := F) c stage) : Cont (F := F) c stage :=
  fill squeezes_S1x1024x256_S1024x256 stage fb (slabsOf squeezes_S1x1024x256_S1024x256 src fs) 8 le_rfl

/-- What the result holds once the eight copies out have landed on contents `fd`: the VMEM buffer's slabs. -/
abbrev copied (c : Dev nD) (fs : Cont (F := F) c src) (fb : Cont (F := F) c stage) (fd : Cont (F := F) c dst) :
    Cont (F := F) c dst :=
  fill squeezes_S1x1024x256_S1024x256 dst fd (slabsOf squeezes_S1x1024x256_S1024x256 stage (staged c fs fb)) 8 le_rfl

/-- The result holds the argument, whatever the buffer and the result held before. -/
theorem copied_eq (c : Dev nD) (fs : Cont (F := F) c src) (fb : Cont (F := F) c stage) (fd : Cont (F := F) c dst) :
    copied c fs fb fd = fs :=
  (read_fill_all squeezes_S1x1024x256_S1024x256 dst stage fd (staged c fs fb)).trans
    (read_fill_all squeezes_S1x1024x256_S1024x256 stage src fb fs)

/-! ## The body's run -/

set_option sl_exec.dmaWindow true in
/-- From the argument held at `fs`, the buffer and the result at anything, the sixteen counters at zero and nothing
    owed, the body runs to its end with the argument as it was, the result holding `fs`, the buffer at something and
    the counters at zero again. -/
theorem body_run (c : Dev nD) (fs : Cont (F := F) c src) (fd : Cont (F := F) c dst) (W : Waits sig Unit) (K : PUnit → sProp 𝕄) :
    iprop((∃ fb, held c stage fb)
        ∗ (idle c 0 ∗ idle c 1 ∗ idle c 2 ∗ idle c 3 ∗ idle c 4 ∗ idle c 5 ∗ idle c 6 ∗ idle c 7
          ∗ idle c 8 ∗ idle c 9 ∗ idle c 10 ∗ idle c 11 ∗ idle c 12 ∗ idle c 13 ∗ idle c 14 ∗ idle c 15)
        ∗ held c src fs ∗ held c dst fd ∗ owes (c : Thread nD τ) 0 W
        ∗ (iprop((∃ fb, held c stage fb)
            ∗ (idle c 0 ∗ idle c 1 ∗ idle c 2 ∗ idle c 3 ∗ idle c 4 ∗ idle c 5 ∗ idle c 6 ∗ idle c 7
              ∗ idle c 8 ∗ idle c 9 ∗ idle c 10 ∗ idle c 11 ∗ idle c 12 ∗ idle c 13 ∗ idle c 14 ∗ idle c 15)
            ∗ held c src fs ∗ held c dst fs ∗ (∃ W', owes (c : Thread nD τ) 0 W')) -∗ K ⟨⟩))
      ⊢ wp frame (wpE (defs₀ (F := F)) Variants.none c none) Set.univ
          (cc0__identity_copy_kernel src (Memref.isWhole_whole _) dst (Memref.isWhole_whole _) stage (Memref.isWhole_whole _)
            cc0_scratch1 cc0_scratch2) K := by
  simp only [cc0__identity_copy_kernel_eq_skeleton]; unfold cc0__identity_copy_kernel_skel
  iintro ⟨⟨%fb, Hb⟩, ⟨Q0, Q1, Q2, Q3, Q4, Q5, Q6, Q7, Q8, Q9, Q10, Q11, Q12, Q13, Q14, Q15⟩, Hs, Hd, HW, Hk⟩
  sl_exec
  sl_step
  have hd : (held c dst (copied c fs fb fd) : sProp 𝕄) ⊢ held c dst fs := by rw [copied_eq]
  iapply Hk
  isplitl [Hb]; · iexists _; iexact Hb
  isplitl [Q0 Q1 Q2 Q3 Q4 Q5 Q6 Q7 Q8 Q9 Q10 Q11 Q12 Q13 Q14 Q15]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    iexact Q15
  isplitl [Hs]; · iexact Hs
  isplitl [Hd]; · iapply hd; iexact Hd
  iexists _; iexact HW

/-! ## The launch -/

/-- @main is the kernel's region alone, entered with every array as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m
    (main (F := F)) (V m) :=
  Pipeline.hmain_region cfgs 0 defs₀ 𝒱₀ m main fun c => (main_chain c).trans rfl

/-- The array the body only reads, and the one it writes. -/
def H0 : Finset (Ref sig .tc) := {main_arg0}
def R0 : Finset (Ref sig .tc) := {main_v0}
theorem H0_sub : H0 ⊆ Pipeline.restRefs sig (cfg0.spec) := by decide
theorem R0_sub : R0 ⊆ Pipeline.restRefs sig (cfg0.spec) \ H0 := by decide

/-- Every array at the end: the result at the first argument's contents, the others as launched. -/
def G (c : Dev nD) : (b : Ref sig .tc) → Buf (Elt F) ((c : Thread nD τ).loc b) :=
  Function.update (V m c) main_v0 (V m c main_arg0)

theorem G_result (c : Dev nD) : G m c main_v0 = V m c main_arg0 := Function.update_self ..

/-- What the body holds between points, the result at `X`: the buffer at something, the generator's register, the
    counters at zero, the argument as launched, the result. -/
abbrev inv (c : Dev nD) (X : (b : Ref sig .tc) → Buf (Elt F) ((c : Thread nD τ).loc b)) : sProp 𝕄 :=
  Pipeline.ΦDRG osem0 (cfg0.spec) H0 R0 (V m) (fun _ => X) c

/-- The same, conjunct by conjunct. -/
theorem inv_eq (c : Dev nD) (X : (b : Ref sig .tc) → Buf (Elt F) ((c : Thread nD τ).loc b)) :
    inv m c X = iprop((∃ fb, held c stage fb) ∗ (∃ r, prngReg c r)
      ∗ (idle c 0 ∗ idle c 1 ∗ idle c 2 ∗ idle c 3 ∗ idle c 4 ∗ idle c 5 ∗ idle c 6 ∗ idle c 7
          ∗ idle c 8 ∗ idle c 9 ∗ idle c 10 ∗ idle c 11 ∗ idle c 12 ∗ idle c 13 ∗ idle c 14 ∗ idle c 15)
      ∗ held c src (V m c main_arg0) ∗ held c dst (X main_v0)) := by
  rw [inv, Pipeline.ΦDRG_eq, scopedRest0_eq, ownSems0_list, R0, Pipeline.routed_singleton, H0, BI.bigSep_singleton]

/-- The proof data of the one launch: no window, the result as launched before the one point and as the argument after
    it, nothing owed. -/
def dats (_ : Fin 1) (c : Dev nD) : Dat τ (Elt F) Unit ℕ (Pipeline.UD sig nD τ) ℕ cfg0 c where
  A w := V m c (Pipeline.arrRef (cfg0.spec) w)
  after w := w.elim0
  Φ t := inv m c (if t.val = 0 then V m c else G m c)
  q _ := fullShare
  owed _ := 0

theorem Φ_before (c : Dev nD) (t : Fin cfg0.N) : (dats m 0 c).Φ t.castSucc = inv m c (V m c) := by
  rw [fin_N0 t]; rfl
theorem Φ_after (c : Dev nD) (t : Fin cfg0.N) : (dats m 0 c).Φ t.succ = inv m c (G m c) := rfl

/-- The body at the launch's one point. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  unfold bodyAt0
  rw [Φ_before, Φ_after, inv_eq, inv_eq, G_result]
  unfold Dat.owesAt Pipeline.owesWithin
  rw [show (dats m 0 c).owed t.castSucc = 0 from rfl, show (dats m 0 c).owed t.succ = 0 from rfl]
  iintro ⟨⟨Hb, Hg, HQ, Hs, Hd⟩, ⟨%W, -, HW⟩⟩
  iapply (body_run c (V m c main_arg0) (V m c main_v0) W _)
  isplitl [Hb]; · iexact Hb
  isplitl [HQ]; · iexact HQ
  isplitl [Hs]; · iexact Hs
  isplitl [Hd]; · iexact Hd
  isplitl [HW]; · iexact HW
  iintro ⟨Hb, HQ, Hs, Hd, ⟨%W', HW'⟩⟩
  isplitl [Hb Hg HQ Hs Hd]
  · isplitl [Hb]; · iexact Hb
    isplitl [Hg]; · iexact Hg
    isplitl [HQ]; · iexact HQ
    isplitl [Hs]; · iexact Hs
    iexact Hd
  iexists W'
  isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row, show (Finset.univ : Finset (Fin cfg0.W)) = ∅ from rfl, BI.bigSep_empty, BI.bigSep_empty]
  refine triple_restated (sound_body m c t) rfl ?_ fun _ => ?_
  · iintro ⟨HΦ, HO, -⟩
    isplitl [HΦ]; · iexact HΦ
    iexact HO
  · iintro ⟨HΦ, HO⟩
    isplitl [HΦ]; · iexact HΦ
    isplitl [HO]; · iexact HO
    iempintro

set_option backward.isDefEq.respectTransparency.types false in
/-- The launch: every weakly fair run ends, the result holds what `G` says, every other array is as launched, and every
    semaphore counter is zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ _ => rfl) (G := G m)
    (hin := fun _ => .rfl) (hout := fun _ => .rfl)

/-- THE RUN: from any memory whose counters are zero, every weakly fair run of the program ends, with the result equal
    to the first argument, both arguments unchanged, and every semaphore counter at zero. -/
theorem run : θ_run defs (onTc (τ := τ) (main (F := F))) ⟨m, fun _ => 0, ρ⟩ (fun r => (∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1.written c (Finset.mem_singleton_self main_v0)).trans (G_result m c),
      (h.1.toR c).2 main_arg0 (Finset.mem_sdiff.mpr ⟨Pipeline.mem_restRefs_of main_arg0 (by decide) (by decide), by decide⟩),
      (h.1.toR c).2 main_arg1 (Finset.mem_sdiff.mpr ⟨Pipeline.mem_restRefs_of main_arg1 (by decide) (by decide), by decide⟩)⟩,
    h.2⟩) (run_main m ρ)

end Cert.Kernel.Hand

end
-- ==== Proof.Ideal.lean ====
/-
  The idealized kernel's run.

  No rule rewrote any operation of the kernel, so the program printed for the ideal reading is, line for line, the
  program printed as it stands, and the two programs' terms are equal by computation. The run proved in Run.lean at any
  interpretation of the floats is therefore its run as well, taken at the extended reals.
-/
module

public import proofs.«01_k».proof.Proof.Run
public import proofs.«01_k».proof.Proof.Gen.KernelIdeal
public import Idealize.ShloMosaic.PureOps.Ideal

@[expose] public section

noncomputable section

namespace Cert.KernelIdeal.Hand

open Cert.KernelIdeal Idealize.ShloMosaic Idealize.SL.Sem

/-- From any memory whose counters are zero, every weakly fair run of the idealized program ends, with the result equal
    to the first argument, both arguments unchanged, and every semaphore counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Cert.Kernel.Hand.run (F := Ideal) m ρ

end Cert.KernelIdeal.Hand

end
-- ==== Proof.Ref.lean ====
/-
  The references' runs.

  The reference returns its first argument, so its program performs no operation: it ends at once, with both arguments
  as they were. It declares no semaphore, so every counter is zero at any state. The idealized reference is the same
  program, read at the extended reals.
-/
module

public import proofs.«01_k».proof.Proof.Gen.Reference
public import proofs.«01_k».proof.Proof.Gen.ReferenceIdeal
public import Idealize.ShloMosaic.PureOps.Ideal
public import Idealize.ShloMosaic.Lib.Quiescent
public import Idealize.ShloMosaic.Lib.Claim
public import Idealize.ShloMosaic.Lib.StableHlo.RunHlo

@[expose] public section

noncomputable section

open Idealize.ShloMosaic Idealize.SL.Sem

namespace Cert.Reference.Hand

open Cert.Reference

/-- From any memory whose counters are zero, every weakly fair run of the reference ends, with both arguments unchanged
    and every semaphore counter at zero. -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have args : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
    hlo_run
  exact (θ_run defs _ _).mono (fun r h => ⟨h, sem_eq_zero_of_no_sems (by decide) r.2⟩) args

end Cert.Reference.Hand

namespace Cert.ReferenceIdeal.Hand

open Cert.ReferenceIdeal

/-- The same of the idealized reference. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Cert.Reference.Hand.run (F := Ideal) m ρ

end Cert.ReferenceIdeal.Hand

end
-- ==== Proof.lean ====
/-
  The proof of `Cert.Claim`.

  The kernel copies its first argument to its result, and the reference returns its first argument. Proof/Slabs.lean
  shows that eight copied slabs make up the whole array; Proof/Run.lean runs the kernel; Proof/Ideal.lean reads that
  run at the extended reals; Proof/Ref.lean runs the references. Here the claims are put together: the frames are the
  runs without the result, and the shared value of the two value claims is the kernel's first argument.
-/
module

public import proofs.«01_k».proof.Defs
public import proofs.«01_k».proof.Proof.Run
public import proofs.«01_k».proof.Proof.Ideal
public import proofs.«01_k».proof.Proof.Ref

@[expose] public section

noncomputable section

namespace Cert.Proof

open Idealize.ShloMosaic Idealize.SL.Sem

/-- The kernel ends with its arguments unchanged and its counters at zero. -/
theorem frame_kernel : Cert.quiescent_Kernel := fun m ρ _ =>
  θ_run_mono (Cert.Kernel.Hand.run m ρ) fun _ h => ⟨fun c => (h.1 c).2, h.2⟩

/-- So does the idealized kernel. -/
theorem frame_kernelIdeal : Cert.quiescent_KernelIdeal := fun m ρ _ =>
  θ_run_mono (Cert.KernelIdeal.Hand.run m ρ) fun _ h => ⟨fun c => (h.1 c).2, h.2⟩

/-- So does the idealized reference. -/
theorem frame_referenceIdeal : Cert.quiescent_ReferenceIdeal := fun m ρ _ => Cert.ReferenceIdeal.Hand.run m ρ

/-- So does the reference. -/
theorem frame_reference : Cert.quiescent_Reference := fun m ρ _ => Cert.Reference.Hand.run m ρ

/-- Over the extended reals, the kernel's result is the reference's: both are the first argument. -/
theorem algebraic : Cert.algebraic_KernelIdeal_ReferenceIdeal := fun m ρ m' ρ' _ hagree =>
  ⟨fun c => m ((c.tc : Thread Cert.KernelIdeal.nD Cert.KernelIdeal.τ).loc Cert.KernelIdeal.main_arg0),
    θ_run_mono (Cert.KernelIdeal.Hand.run m ρ) fun _ h => h.1,
    θ_run_mono (Cert.ReferenceIdeal.Hand.run m' ρ') fun _ h c => ⟨(h.1 c).1.trans (hagree c).1, h.1 c⟩⟩

/-- Bit for bit, the kernel's result is the reference's: both are the first argument. -/
theorem bitexact : Cert.bitexact_Kernel_Reference := fun m ρ m' ρ' _ hagree =>
  ⟨fun c => m ((c.tc : Thread Cert.Kernel.nD Cert.Kernel.τ).loc Cert.Kernel.main_arg0),
    θ_run_mono (Cert.Kernel.Hand.run m ρ) fun _ h => h.1,
    θ_run_mono (Cert.Reference.Hand.run m' ρ') fun _ h c => ⟨(h.1 c).1.trans (hagree c).1, h.1 c⟩⟩

/-- Every claim of the certificate. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
